-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x2048x32000 : Shape := ⟨3, ![4, 2048, 32000]⟩
abbrev S4x2048 : Shape := ⟨2, ![4, 2048]⟩
abbrev S_ : Shape := ⟨0, ![]⟩
abbrev S4 : Shape := ⟨1, ![4]⟩
abbrev S1 : Shape := ⟨1, ![1]⟩
abbrev S4x1x1 : Shape := ⟨3, ![4, 1, 1]⟩

class Facts : Prop where
  reducesTo_S4x2048_S4_d1 : S4x2048.ReducesTo [1] S4
  h_S_ : 0 < S_.numel
  slices_S4_S1_0 : S4.Slices ![0] S1
  shapeCasts_S1_S_ : S1.ShapeCasts S_
  slices_S4x2048x32000_S4x1x1_0_2047_10784 : S4x2048x32000.Slices ![0, 2047, 10784] S4x1x1
  shapeCasts_S4x1x1_S4 : S4x1x1.ShapeCasts S4
  slices_S4x2048x32000_S4x1x1_0_2047_3771 : S4x2048x32000.Slices ![0, 2047, 3771] S4x1x1
  bcast_S_S4 : S_.BroadcastsInDim S4 (![] : Fin 0 → Fin S4.rank)
  reducesTo_S4_S_d0 : S4.ReducesTo [0] S_

variable [Facts]

def fn_part1 {F : FTy → Type} [FloatOps F] (main_v14 : IVec S_ 1) (main_v17 : IVec S4 1) : IVec S_ 1 :=
  let main_c_4 : IVec S_ 1 := constantI S_ 1 1#1
  let main_v18 : IVec S_ 1 := (fun x v => Host.reduce IntOp.andi x v reducesTo_S4_S_d0 h_S_) main_v17 main_c_4
  let main_v19 : IVec S_ 1 := andi main_v14 main_v18
  main_v19

def fn {F : FTy → Type} [FloatOps F] (main_arg0 : FVec F S4x2048x32000 .f32) (main_arg1 : IVec S4x2048 32) : IVec S_ 1 :=
  let main_c : IVec S_ 32 := constantI S_ 32 0#32
  let main_v0 : IVec S4 32 := (fun x v => Host.reduce IntOp.addi x v reducesTo_S4x2048_S4_d1 h_S_) main_arg1 main_c
  let main_v1 : IVec S1 32 := (extractStridedSlice S1 ![0] · slices_S4_S1_0) main_v0
  let main_v2 : IVec S_ 32 := shapeCast S_ main_v1 shapeCasts_S1_S_
  let main_v3 : FVec F S4x1x1 .f32 := (extractStridedSlice S4x1x1 ![0, 2047, 10784] · slices_S4x2048x32000_S4x1x1_0_2047_10784) main_arg0
  let main_v4 : FVec F S4 .f32 := shapeCast S4 main_v3 shapeCasts_S4x1x1_S4
  let main_v5 : FVec F S4x1x1 .f32 := (extractStridedSlice S4x1x1 ![0, 2047, 3771] · slices_S4x2048x32000_S4x1x1_0_2047_3771) main_arg0
  let main_v6 : FVec F S4 .f32 := shapeCast S4 main_v5 shapeCasts_S4x1x1_S4
  let main_c_0 : IVec S_ 32 := constantI S_ 32 2048#32
  let main_v7 : IVec S_ 1 := cmpi .eq main_v2 main_c_0
  let main_c_1 : IVec S_ 32 := constantI S_ 32 0#32
  let main_v8 : IVec S_ 1 := cmpi .eq main_v2 main_c_1
  let main_v9 : IVec S_ 1 := ori main_v7 main_v8
  let main_v10 : FVec F S4 .f32 := Host.absf main_v4
  let main_cst : FVec F S_ .f32 := constant S_ .f32 0x7F800000#32
  let main_v11 : FVec F S4 .f32 := broadcastInDim S4 ![] bcast_S_S4 main_cst
  let main_v12 : IVec S4 1 := cmpf .olt main_v10 main_v11
  let main_c_2 : IVec S_ 1 := constantI S_ 1 1#1
  let main_v13 : IVec S_ 1 := (fun x v => Host.reduce IntOp.andi x v reducesTo_S4_S_d0 h_S_) main_v12 main_c_2
  let main_v14 : IVec S_ 1 := andi main_v9 main_v13
  let main_v15 : FVec F S4 .f32 := Host.absf main_v6
  let main_cst_3 : FVec F S_ .f32 := constant S_ .f32 0x7F800000#32
  let main_v16 : FVec F S4 .f32 := broadcastInDim S4 ![] bcast_S_S4 main_cst_3
  let main_v17 : IVec S4 1 := cmpf .olt main_v15 main_v16
  fn_part1 (F := F) main_v14 main_v17
-- ==== Kernel.lean ====
abbrev S4x2048x32000 : Shape := ⟨3, ![4, 2048, 32000]⟩
abbrev S4x2048 : Shape := ⟨2, ![4, 2048]⟩
abbrev S8 : Shape := ⟨1, ![8]⟩
abbrev S128 : Shape := ⟨1, ![128]⟩
abbrev S16 : Shape := ⟨1, ![16]⟩
abbrev S_ : Shape := ⟨0, ![]⟩
abbrev S1x1x16 : Shape := ⟨3, ![1, 1, 16]⟩
abbrev S1 : Shape := ⟨1, ![1]⟩
abbrev S4x2 : Shape := ⟨2, ![4, 2]⟩

abbrev nBuf : Table → Nat
  | .hbm => 4
  | .local .scVector .vmem => 2
  | _ => 0

abbrev bufTy : (tb : Table) → Fin (nBuf tb) → BufTy
  | .hbm, ⟨0, _⟩ => ⟨S4x2048x32000, .f32⟩
  | .hbm, ⟨1, _⟩ => ⟨S4x2048, .i32⟩
  | .hbm, ⟨2, _⟩ => ⟨S8, .f32⟩
  | .hbm, ⟨3, _⟩ => ⟨S4x2, .f32⟩
  | .local .scVector .vmem, ⟨0, _⟩ => ⟨S128, .f32⟩
  | .local .scVector .vmem, ⟨1, _⟩ => ⟨S16, .f32⟩
  | _, _ => ⟨S4x2048x32000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== ReferenceIdeal.lean ====
abbrev S4x2048x32000 : Shape := ⟨3, ![4, 2048, 32000]⟩
abbrev S4x2048 : Shape := ⟨2, ![4, 2048]⟩
abbrev S_ : Shape := ⟨0, ![]⟩
abbrev S4 : Shape := ⟨1, ![4]⟩
abbrev S4x1 : Shape := ⟨2, ![4, 1]⟩
abbrev S1 : Shape := ⟨1, ![1]⟩
abbrev S1x1 : Shape := ⟨2, ![1, 1]⟩
abbrev S4x4x32000 : Shape := ⟨3, ![4, 4, 32000]⟩
abbrev S4x1x32000 : Shape := ⟨3, ![4, 1, 32000]⟩
abbrev S4x32000 : Shape := ⟨2, ![4, 32000]⟩
abbrev S4x2 : Shape := ⟨2, ![4, 2]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S_, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S1, .i32⟩
  | .hbm, ⟨16, _⟩ => ⟨S_, .i32⟩
  | .hbm, ⟨17, _⟩ => ⟨S4x1, .i32⟩
  | .hbm, ⟨18, _⟩ => ⟨S4x1, .i1⟩
  | .hbm, ⟨19, _⟩ => ⟨S1x1, .i32⟩
  | .hbm, ⟨20, _⟩ => ⟨S4x1, .i32⟩
  | .hbm, ⟨21, _⟩ => ⟨S4x1, .i1⟩
  | .hbm, ⟨22, _⟩ => ⟨S4x1, .i1⟩
  | .hbm, ⟨23, _⟩ => ⟨S_, .i1⟩
  | .hbm, ⟨24, _⟩ => ⟨S4, .i1⟩
  | .hbm, ⟨25, _⟩ => ⟨S4x4x32000, .f32⟩
  | .hbm, ⟨26, _⟩ => ⟨S4x4x32000, .i1⟩
  | .hbm, ⟨27, _⟩ => ⟨S_, .f32⟩
  | .hbm, ⟨28, _⟩ => ⟨S4x4x32000, .f32⟩
  | .hbm, ⟨29, _⟩ => ⟨S4x4x32000, .f32⟩
  | .hbm, ⟨30, _⟩ => ⟨S4x1x32000, .f32⟩
  | .hbm, ⟨31, _⟩ => ⟨S4x32000, .f32⟩
  | .hbm, ⟨32, _⟩ => ⟨S4x1, .f32⟩
  | .hbm, ⟨33, _⟩ => ⟨S4, .f32⟩
  | .hbm, ⟨34, _⟩ => ⟨S4x1, .f32⟩
  | .hbm, ⟨35, _⟩ => ⟨S4, .f32⟩
  | .hbm, ⟨36, _⟩ => ⟨S4x1, .f32⟩
  | .hbm, ⟨37, _⟩ => ⟨S4x1, .f32⟩
  | .hbm, ⟨38, _⟩ => ⟨S4x2, .f32⟩
  | .hbm, ⟨39, _⟩ => ⟨S_, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4x1, .f32⟩
  | .hbm, ⟨45, _⟩ => ⟨S4x2, .f32⟩
  | .hbm, ⟨46, _⟩ => ⟨S4x2, .f32⟩
  | .hbm, ⟨47, _⟩ => ⟨S4x2, .f32⟩
  | .hbm, ⟨48, _⟩ => ⟨S_, .f32⟩
  | .hbm, ⟨49, _⟩ => ⟨S4, .f32⟩
  | .hbm, ⟨50, _⟩ => ⟨S4x1, .f32⟩
  | .hbm, ⟨51, _⟩ => ⟨S4x2, .f32⟩
  | .hbm, ⟨52, _⟩ => ⟨S4x2, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩

abbrev nD : Nat := 1
abbrev τ : Topo := Topo.v7x

variable {F : FTy → Type} [FloatOps F]
-- ==== Proof.KernelIdealTile.lean ====
/- The task of the program `KernelIdeal`, for any float instance. One vector subcore starts eight copies of sixteen logits
   each into its gather scratch, all counted by one semaphore, waits for the eight, loads the eight vectors, takes lane 0
   or lane 11 of each, forms the four differences, stores the logistic function of plus and minus each difference, and
   copies the first eight lanes to the call's result.

   `gathered` says what the scratch holds after the copies and `result` what the task leaves in the call's result;
   `stored_result` proves that the stored vector's first eight lanes are `result`, and `tile_body` runs the task. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

/-- The labels of the program's loops, of which it has none of its own. -/
abbrev ΛP : Labels := Pipeline.Sig Λ₀ (Fin 0) fun p => (pcfgs (F := F) p).Adm
/-- The program's launch configuration. -/
abbrev K : SparseCore.Cfg τ sig (ΛP (F := F)) 1 := sc (F := F)
/-- The definitions that the program runs under. -/
abbrev D [FloatOps F] : Defs nD τ sig (Elt F) (ΛP (F := F)) := Pipeline.defs pcfgs defs₀
/-- No loop variants are needed. -/
abbrev 𝒱₀ : Variants := Variants.none
/-- The same, with the launch's own. -/
abbrev 𝒱 : Variants := 𝒱₀.lift
/-- The variant that the launch starts at. -/
abbrev v₀ : 𝒱.V := Sum.inl none

/-- The launch theorem's side conditions on the program's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the launch: rounds of signals, each of a natural number. -/
abbrev UH : Type := URounds (GSem nD τ sig) ℕ
/-- That ghost state beside the counters. -/
abbrev UU : Type := UH × Counters

local notation "𝕄" => MT nD τ sig (HIx 1) (Elt F) ℕ UU ℕ

/-- Where the rounds lie in the whole state. -/
abbrev EH : Emb UH (MT nD τ sig (HIx 1) (Elt F) ℕ UU ℕ) := embL

/-! ## The arrays -/

variable (m : (ℓ : Loc nD τ sig) → Buf (Elt F) ℓ) (ρ : Dev nD → PrngReg)

/-- The logits, as a location of device `d`. -/
abbrev xLoc (d : Dev nD) : Loc nD τ sig := (SparseCore.T d).loc main_arg0
/-- The call's result, as a location of device `d`. -/
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S4x2048x32000 EltTy.f32)
local notation "oV" => (Memref.whole Cert.KernelIdeal.main_v0_scv : Memref Cert.KernelIdeal.sig Kind.scVector Space.hbm Cert.KernelIdeal.S8 EltTy.f32)
local notation "gV" => (Memref.whole Cert.KernelIdeal.cc0_scratch0 : Memref Cert.KernelIdeal.sig Kind.scVector Space.vmem Cert.KernelIdeal.S128 EltTy.f32)
local notation "rV" => (Memref.whole Cert.KernelIdeal.cc0_scratch1 : Memref Cert.KernelIdeal.sig Kind.scVector Space.vmem Cert.KernelIdeal.S16 EltTy.f32)

/-! ## What the task computes -/

/-- The logit at sequence position 2047 of batch row `b`, vocabulary entry `v`: its place in the array. -/
def place (b : Fin 4) (v : Fin 32000) : S4x2048x32000.Idx
  | 0 => b
  | 1 => (2047 : Fin 2048)
  | 2 => v

/-- The 128 words that the eight transfers gather: for batch row `b`, words `32 b` to `32 b + 15` are the vocabulary
    entries from 10784, words `32 b + 16` to `32 b + 31` those from 3760. -/
def gathered (x : S4x2048x32000.Idx → F .f32) (i : S128.Idx) : F .f32 :=
  x (place ⟨(i 0).val / 32, by have := (i 0).isLt; simp only [Shape.size] at this; simp at this; omega⟩
    ⟨(if (i 0).val % 32 < 16 then 10784 else 3760) + (i 0).val % 16, by split <;> omega⟩)

/-- Lane `k` of a sixteen-lane vector. -/
def lane (k : Fin 16) : S16.Idx
  | 0 => k

variable [FloatOps F]

/-- The difference of batch row `b`'s two logits, "yes" less "no". -/
def margin (x : S4x2048x32000.Idx → F .f32) (b : Fin 4) : F .f32 :=
  Scalar.subf (x (place b 10784)) (x (place b 3771))

/-- One element of the result: the logistic function of `sign * margin`, as the program writes it. -/
def sigmoid (sign z : F .f32) : F .f32 :=
  FloatOps.divf (FloatOps.ofBits .f32 0x3F800000#32)
    (FloatOps.addf (FloatOps.ofBits .f32 0x3F800000#32) (FloatOps.exp (FloatOps.mulf (FloatOps.subf (FloatOps.ofBits .f32 0x00000000#32) sign) z)))

/-- The call's result: element `2 b` is the probability of "yes" for batch row `b`, element `2 b + 1` that of "no". -/
def result (x : S4x2048x32000.Idx → F .f32) (j : S8.Idx) : F .f32 :=
  sigmoid (if (j 0).val % 2 = 0 then Scalar.ofBits .f32 0x3F800000#32 else Scalar.ofBits .f32 0xBF800000#32)
    (margin x ⟨(j 0).val / 2, by have := (j 0).isLt; simp at this; omega⟩)

omit [FloatOps F] in
/-- A transfer's source: sixteen consecutive vocabulary entries from `o` of row `b` at position 2047. -/
theorem source_read (x : S4x2048x32000.Idx → F .f32) (b : Fin 4) (o : ℕ) (ho : o + 16 ≤ 32000)
    (inb : ∀ a, (![b.val, 2047, o] : Fin 3 → ℕ) a + S1x1x16.size a ≤ S4x2048x32000.size a) (j : S16.Idx) :
    View.read (Elt F) (((xV).slice (Rect.unit (s := S4x2048x32000) ![b.val, 2047, o] S1x1x16.size inb) (fun _ => rfl)).squeeze S16 squeezes_S1x1x16_S16).view x j
      = x (place b ⟨o + (j 0).val, by have := (j 0).isLt; simp at this; omega⟩) := by
  have hj : Shape.reshapeEquiv (s := S1x1x16) (s' := S16) squeezes_S1x1x16_S16.numel_eq j
      = (Fin.cons (⟨0, Nat.one_pos⟩ : Fin 1) (Fin.cons (⟨0, Nat.one_pos⟩ : Fin 1) j) : S1x1x16.Idx) := by
    apply Shape.reshapeEquiv_eq_of_rowMajor
    rw [Shape.rowMajor_val_three, Shape.rowMajor_val_one]
    show (0 * 1 + 0) * 16 + (j 0).val = (j 0).val
    omega
  show x ((Rect.unit (s := S4x2048x32000) ![b.val, 2047, o] S1x1x16.size inb).emb (Shape.reshapeEquiv (s := S1x1x16) (s' := S16) squeezes_S1x1x16_S16.numel_eq j)) = _
  rw [hj]
  congr 1
  funext a
  apply Fin.ext
  match a with
  | 0 => rfl
  | 1 => rfl
  | 2 => show o + 1 * (j 0).val = o + (j 0).val; rw [Nat.one_mul]

/-- Word `e` of the gathered scratch. -/
def word (e : Fin 128) : S128.Idx
  | 0 => e

/-- One transfer into the gathered scratch: at word `e`, the sixteen entries from `o` of batch row `b`. -/
abbrev piece (x : S4x2048x32000.Idx → F .f32) (b o e : ℕ)
    (inb : ∀ a, (![b, 2047, o] : Fin 3 → ℕ) a + S1x1x16.size a ≤ S4x2048x32000.size a)
    (inb' : ∀ a, (![e] : Fin 1 → ℕ) a + S16.size a ≤ S128.size a) : View.Piece (Elt F) S128 .f32 :=
  ⟨Rect.unit (s := S128) ![e] S16.size inb', ReadAs.same.apply
    (View.read (Elt F) (((xV).slice (Rect.unit (s := S4x2048x32000) ![b, 2047, o] S1x1x16.size inb) (fun _ => rfl)).squeeze S16 squeezes_S1x1x16_S16).view x)⟩

/-- The eight transfers, the last one first. -/
abbrev pieces (x : S4x2048x32000.Idx → F .f32) : List (View.Piece (Elt F) S128 .f32) :=
  [piece x 3 3760 112 inb_S4x2048x32000_S1x1x16_3_2047_3760 inb_S128_S16_112,
    piece x 3 10784 96 inb_S4x2048x32000_S1x1x16_3_2047_10784 inb_S128_S16_96,
    piece x 2 3760 80 inb_S4x2048x32000_S1x1x16_2_2047_3760 inb_S128_S16_80,
    piece x 2 10784 64 inb_S4x2048x32000_S1x1x16_2_2047_10784 inb_S128_S16_64,
    piece x 1 3760 48 inb_S4x2048x32000_S1x1x16_1_2047_3760 inb_S128_S16_48,
    piece x 1 10784 32 inb_S4x2048x32000_S1x1x16_1_2047_10784 inb_S128_S16_32,
    piece x 0 3760 16 inb_S4x2048x32000_S1x1x16_0_2047_3760 inb_S128_S16_16,
    piece x 0 10784 0 inb_S4x2048x32000_S1x1x16_0_2047_10784 inb_S128_S16_0]

omit [FloatOps F] in
/-- A transfer that goes where `gathered` says agrees with `gathered`. -/
theorem piece_gathered (x : S4x2048x32000.Idx → F .f32) (b o e : ℕ) (hb : b < 4) (ho : o + 16 ≤ 32000)
    (inb : ∀ a, (![b, 2047, o] : Fin 3 → ℕ) a + S1x1x16.size a ≤ S4x2048x32000.size a)
    (inb' : ∀ a, (![e] : Fin 1 → ℕ) a + S16.size a ≤ S128.size a)
    (he : e = 32 * b ∧ o = 10784 ∨ e = 32 * b + 16 ∧ o = 3760) (y : S16.Idx) :
    (piece x b o e inb inb').2 y = gathered x ((piece x b o e inb inb').1.emb y) := by
  have hy : (y 0).val < 16 := (y 0).isLt
  refine (source_read x ⟨b, hb⟩ o ho inb y).trans ?_
  have h0 : (((Rect.unit (s := S128) ![e] S16.size inb').emb y) 0).val = e + (y 0).val := by
    show e + 1 * (y 0).val = _; rw [Nat.one_mul]
  unfold gathered
  congr 2
  · apply Fin.ext; show b = _; dsimp only; rw [h0]; omega
  · apply Fin.ext; show o + (y 0).val = _; dsimp only; rw [h0]; split <;> omega

omit [FloatOps F] in
/-- Every transfer agrees with `gathered`. -/
theorem pieces_gathered (x : S4x2048x32000.Idx → F .f32) :
    ∀ p ∈ pieces x, ∀ y : p.1.shape.Idx, p.2 y = gathered x (p.1.emb y) := by
  exact List.forall_mem_cons.mpr ⟨piece_gathered x 3 3760 112 (by decide) (by decide) _ _ (by decide),
    List.forall_mem_cons.mpr ⟨piece_gathered x 3 10784 96 (by decide) (by decide) _ _ (by decide),
    List.forall_mem_cons.mpr ⟨piece_gathered x 2 3760 80 (by decide) (by decide) _ _ (by decide),
    List.forall_mem_cons.mpr ⟨piece_gathered x 2 10784 64 (by decide) (by decide) _ _ (by decide),
    List.forall_mem_cons.mpr ⟨piece_gathered x 1 3760 48 (by decide) (by decide) _ _ (by decide),
    List.forall_mem_cons.mpr ⟨piece_gathered x 1 10784 32 (by decide) (by decide) _ _ (by decide),
    List.forall_mem_cons.mpr ⟨piece_gathered x 0 3760 16 (by decide) (by decide) _ _ (by decide),
    List.forall_mem_cons.mpr ⟨piece_gathered x 0 10784 0 (by decide) (by decide) _ _ (by decide),
    fun _ h => absurd h List.not_mem_nil⟩⟩⟩⟩⟩⟩⟩⟩

omit [FloatOps F] in
/-- A load of the sixteen words that a transfer wrote reads `gathered` there. -/
theorem row_read [∀ e, Nonempty (Elt F e)] (x : S4x2048x32000.Idx → F .f32) (e : ℕ)
    (inb : ∀ a, (![e] : Fin 1 → ℕ) a + S16.size a ≤ S128.size a) (w : S16.Idx → F .f32)
    (hmem : (⟨Rect.unit (s := S128) ![e] S16.size inb, w⟩ : View.Piece (Elt F) S128 .f32) ∈ pieces x) (k : Fin 16) (he : e + k.val < 128) :
    (gV).view.readCov (pieces x) (Rect.unit (s := S128) ![e] S16.size inb).toLoadRect (lane k) = gathered x (word ⟨e + k.val, he⟩) := by
  have hx : (Rect.unit (s := S128) ![e] S16.size inb).emb (lane k) = word ⟨e + k.val, he⟩ := by
    funext a
    match a with
    | 0 => exact Fin.ext (show e + 1 * k.val = e + k.val by rw [Nat.one_mul])
  rw [← hx]
  exact View.read_writes_apply_of_pieces (Val := Elt F) (gV).view (gV).view.junk (gathered x) (pieces x) (pieces_gathered x) _
    ⟨_, hmem, (Rect.unit (s := S128) ![e] S16.size inb).toLoadRect.idx_mem (lane k)⟩

omit [FloatOps F] in
/-- The first eight words of the stored vector, as the copy to the call's result reads them. -/
theorem stored_read (f : S16.Idx → F .f32) (w : S16.Idx → F .f32) (j : S8.Idx) :
    ReadAs.same.apply (View.read (Elt F) ((rV).slice (Rect.unit (s := S16) ![0] S8.size inb_S16_S8_0) (fun _ => rfl)).view
      ((rV).view.writes (Elt F) f [⟨Rect.unit (s := S16) ![0] S16.size inb_S16_S16_0, w⟩])) j
      = w (lane ⟨(j 0).val, Nat.lt_trans (j 0).isLt (by decide)⟩) := by
  refine View.read_writes_cons_hit_of_coords (Val := Elt F) (rV).view f (Rect.unit (s := S16) ![0] S16.size inb_S16_S16_0) w [] _ _ fun a => ?_
  match a with
  | 0 => rfl

omit [FloatOps F] in
/-- The program's way of taking lane `k` out of a vector: a slice of one lane, and that slice's element. -/
theorem take_lane (r : Vec F S16 .f32) (k : Fin 16) (h : S16.Slices ![k.val] S1) (h' : ∀ a, (![0] : Fin 1 → ℕ) a < S1.size a) :
    extractAt ![0] (extractStridedSlice S1 ![k.val] r h) h' = r (lane k) := by
  show r _ = r _
  congr 1
  funext a
  match a with
  | 0 => exact Fin.ext (Nat.add_zero _)

/-- Lanes 0 to 7 of the stored vector, from the eight loaded rows: lane 0 of an even row is the "yes" logit, lane 11 of an
    odd one the "no" logit. -/
theorem stored_lane (r : Fin 8 → Vec F S16 .f32) (j : Fin 8) :
    k0_pay5 (iota .scVector S16 32 [0] iota_S16_d0_w32_scVector) k0_pay1 k0_pay2 (k0_pay3 (r 0) (r 1)) (k0_pay4 (r 2) (r 3)) (r 4) (r 5) (r 6) (r 7) (lane ⟨j.val, by omega⟩)
      = sigmoid (if j.val % 2 = 0 then Scalar.ofBits .f32 0x3F800000#32 else Scalar.ofBits .f32 0xBF800000#32)
          (Scalar.subf (r ⟨2 * (j.val / 2), by omega⟩ (lane 0)) (r ⟨2 * (j.val / 2) + 1, by omega⟩ (lane 11))) := by
  have h0 (v : Vec F S16 .f32) : extractAt ![0] (extractStridedSlice S1 ![0] v slices_S16_o0_S1) inpos_S1_p0 = v (lane 0) :=
    take_lane v 0 slices_S16_o0_S1 inpos_S1_p0
  have h11 (v : Vec F S16 .f32) : extractAt ![0] (extractStridedSlice S1 ![11] v slices_S16_o11_S1) inpos_S1_p0 = v (lane 11) :=
    take_lane v 11 slices_S16_o11_S1 inpos_S1_p0
  simp only [k0_pay3, k0_pay4, k0_pay5, h0, h11]
  fin_cases j <;> rfl

/-- The rows that the task loads. -/
abbrev rows [∀ e, Nonempty (Elt F e)] (x : S4x2048x32000.Idx → F .f32) : Fin 8 → Vec F S16 .f32 :=
  ![(gV).view.readCov (pieces x) (Rect.unit (s := S128) ![0] S16.size inb_S128_S16_0).toLoadRect,
    (gV).view.readCov (pieces x) (Rect.unit (s := S128) ![16] S16.size inb_S128_S16_16).toLoadRect,
    (gV).view.readCov (pieces x) (Rect.unit (s := S128) ![32] S16.size inb_S128_S16_32).toLoadRect,
    (gV).view.readCov (pieces x) (Rect.unit (s := S128) ![48] S16.size inb_S128_S16_48).toLoadRect,
    (gV).view.readCov (pieces x) (Rect.unit (s := S128) ![64] S16.size inb_S128_S16_64).toLoadRect,
    (gV).view.readCov (pieces x) (Rect.unit (s := S128) ![80] S16.size inb_S128_S16_80).toLoadRect,
    (gV).view.readCov (pieces x) (Rect.unit (s := S128) ![96] S16.size inb_S128_S16_96).toLoadRect,
    (gV).view.readCov (pieces x) (Rect.unit (s := S128) ![112] S16.size inb_S128_S16_112).toLoadRect]

omit [FloatOps F] in
/-- Row `t`, lane `k` is the gathered word `16 t + k`. -/
theorem rows_apply [∀ e, Nonempty (Elt F e)] (x : S4x2048x32000.Idx → F .f32) (t : Fin 8) (k : Fin 16) :
    rows x t (lane k) = gathered x (word ⟨16 * t.val + k.val, by omega⟩) := by
  fin_cases t <;> refine row_read x _ _ _ (by
    simp only [pieces, List.mem_cons]
    first
      | exact .inl rfl
      | exact .inr (.inl rfl)
      | exact .inr (.inr (.inl rfl))
      | exact .inr (.inr (.inr (.inl rfl)))
      | exact .inr (.inr (.inr (.inr (.inl rfl))))
      | exact .inr (.inr (.inr (.inr (.inr (.inl rfl)))))
      | exact .inr (.inr (.inr (.inr (.inr (.inr (.inl rfl))))))
      | exact .inr (.inr (.inr (.inr (.inr (.inr (.inr (.inl rfl)))))))) k _

/-- The vector that the task stores. -/
abbrev stored [∀ e, Nonempty (Elt F e)] (x : S4x2048x32000.Idx → F .f32) : Vec F S16 .f32 :=
  k0_pay5 (iota .scVector S16 32 [0] iota_S16_d0_w32_scVector) k0_pay1 k0_pay2 (k0_pay3 (rows x 0) (rows x 1)) (k0_pay4 (rows x 2) (rows x 3))
    (rows x 4) (rows x 5) (rows x 6) (rows x 7)

omit [FloatOps F] in
/-- A gathered word, by the batch row and the vocabulary entry that its number encodes. -/
theorem gathered_word (x : S4x2048x32000.Idx → F .f32) (e : Fin 128) (b : Fin 4) (v : Fin 32000) (hb : e.val / 32 = b.val)
    (hv : (if e.val % 32 < 16 then 10784 else 3760) + e.val % 16 = v.val) : gathered x (word e) = x (place b v) :=
  congrArg x (congrArg₂ place (Fin.ext hb) (Fin.ext hv))

/-- Its first eight lanes are the result. -/
theorem stored_result [∀ e, Nonempty (Elt F e)] (x : S4x2048x32000.Idx → F .f32) (j : S8.Idx) :
    stored x (lane ⟨(j 0).val, Nat.lt_trans (j 0).isLt (by decide)⟩) = result x j := by
  have hj : (j 0).val < 8 := (j 0).isLt
  refine (stored_lane (rows x) ⟨(j 0).val, hj⟩).trans ?_
  rw [rows_apply, rows_apply,
    gathered_word x _ ⟨(j 0).val / 2, by omega⟩ 10784 (by show (16 * (2 * ((j 0).val / 2)) + 0) / 32 = (j 0).val / 2; omega)
      (by show (if (16 * (2 * ((j 0).val / 2)) + 0) % 32 < 16 then 10784 else 3760) + (16 * (2 * ((j 0).val / 2)) + 0) % 16 = 10784
          rw [if_pos (by omega)]; omega),
    gathered_word x _ ⟨(j 0).val / 2, by omega⟩ 3771 (by show (16 * (2 * ((j 0).val / 2) + 1) + 11) / 32 = (j 0).val / 2; omega)
      (by show (if (16 * (2 * ((j 0).val / 2) + 1) + 11) % 32 < 16 then 10784 else 3760) + (16 * (2 * ((j 0).val / 2) + 1) + 11) % 16 = 3771
          rw [if_neg (by omega)]; omega)]
  rfl

/-! ## The task's run -/

section Tile

variable (d : Dev nD) (L : grid0.Coords)

/-- The SparseCore of the subcore at the grid's coordinates `L`. -/
abbrev cV (L : grid0.Coords) : Fin τ.nSC := (L 0).castLE hcore0
/-- Its number in that SparseCore. -/
abbrev jV (L : grid0.Coords) : Fin τ.nSub := (L 1).castLE hsub0

/-- The semaphore that counts the eight gathering copies. -/
abbrev gCell (d : Dev nD) (c : Fin τ.nSC) (i : Fin τ.nSub) : GSem nD τ sig := (V d c i, .dma cc0_scratch2.sem)
/-- The semaphore of the copy to the call's result. -/
abbrev wCell (d : Dev nD) (c : Fin τ.nSC) (i : Fin τ.nSub) : GSem nD τ sig := (V d c i, .dma cc0_scoped0.sem)

omit [FloatOps F] in
/-- A subcore's semaphores at zero: those two, and the others. -/
theorem ownSems0_V :
    (ownSems0 (V d (cV L) (jV L)) : sProp 𝕄)
      = iprop(semVal (gCell d (cV L) (jV L)) 0 ∗ semVal (wCell d (cV L) (jV L)) 0
          ∗ bigSep (((ownCells (V d (cV L) (jV L))).erase (gCell d (cV L) (jV L))).erase (wCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch2.sem : SemLoc sig).isScoped .scVector = true; decide⟩),
    SparseCore.bigSep_erase' (Finset.mem_erase.mpr ⟨by simp [gCell, wCell]; decide, (mem_ownCells (g := wCell d (cV L) (jV L))).mpr ⟨rfl, by
      show (SemLoc.dma cc0_scoped0.sem : SemLoc sig).isScoped .scVector = true; decide⟩⟩)]

omit [FloatOps F] in
/-- A subcore's buffers: the gather scratch, the result scratch, and the others. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The logits hold what they held at the start. -/
abbrev xPts (d : Dev nD) : sProp 𝕄 := xLoc d ↦{fullShare} m (xLoc d)
/-- The call's result holds `f`. -/
abbrev oPts (d : Dev nD) (f : Buf (Elt F) (oLoc d)) : sProp 𝕄 := oLoc d ↦{fullShare} f

omit [FloatOps F] in
/-- The logits' array is the same place seen from a subcore. -/
theorem pts_xV (f : Buf (Elt F) (xLoc d)) :
    ((xV).view.loc (V d (cV L) (jV L)) ↦{fullShare} f : sProp 𝕄) = xLoc d ↦{fullShare} f := by
  simp only [Memref.view_whole, View.set_whole]
omit [FloatOps F] in
/-- So is the call's result. -/
theorem pts_oV (f : Buf (Elt F) (oLoc d)) :
    ((oV).view.loc (V d (cV L) (jV L)) ↦{fullShare} f : sProp 𝕄) = oLoc d ↦{fullShare} f := by
  simp only [Memref.view_whole, View.set_whole]

/-- The task: from the logits, the call's result at its old contents and the subcore's scratch and semaphores, it runs to its
    end, leaves `result` of the logits in the call's result, and gives everything else back, the semaphores at zero. `_plan`
    says that the gather semaphore is shared by a batch of eight copies. -/
theorem tile_body [∀ e, Nonempty (Elt F e)] (hF : (K (F := F)).Facts) (O : CellTallies nD τ sig (HIx 1)) (W : Waits sig (HIx 1)) (hO : ∀ g, O g none = 0)
    (_plan : Transfers.BatchOf (V d (cV L) (jV L)) (SemLoc.dma (sig := sig) cc0_scratch2.sem) 8 (windows := true)) :
    iprop(levAts (K (F := F)).L (K (F := F)).lev ∗ emp ∗ (xPts m d ∗ oPts d (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) gV (Memref.isWhole_whole _) rV (Memref.isWhole_whole _) cc0_scratch2 cc0_scoped0)
          fun _ => iprop((xPts m d ∗ oPts d (result (m (xLoc d))))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fg, Hg⟩, ⟨%fr, Hr⟩, Hbufs⟩, ⟨HsemG, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _).symm) $$ Hx
  ihave Ho' := (Entails.of_eq (pts_oV (F := F) d L _).symm) $$ Ho
  ihave Hg' := (show ((V d (cV L) (jV L)).loc cc0_scratch0 ↦{fullShare} fg : sProp 𝕄) ⊢ (gV).view.loc (V d (cV L) (jV L)) ↦{fullShare} fg from Entails.of_eq rfl) $$ Hg
  ihave Hr' := (show ((V d (cV L) (jV L)).loc cc0_scratch1 ↦{fullShare} fr : sProp 𝕄) ⊢ (rV).view.loc (V d (cV L) (jV L)) ↦{fullShare} fr from Entails.of_eq rfl) $$ Hr
  sl_unfold [cc0__sc_body]
  sl_exec
  have hval : View.write (Elt F) (oV).view (m (oLoc d)) (tile_body.sl.dma10 m d L fr) Finset.univ = result (m (xLoc d)) := by
    refine (View.write_whole_univ main_v0_scv _ _).trans (funext fun j => ?_)
    exact (stored_read fr (stored (m (xLoc d))) j).trans (stored_result (m (xLoc d)) j)
  sl_step
  isplitl [Hx' Ho']
  · isplitl [Hx']; · iapply (Entails.of_eq (pts_xV (F := F) d L _)); iexact Hx'
    rw [hval]
    iapply (Entails.of_eq (pts_oV (F := F) d L _)); iexact Ho'
  isplitl [Hg' Hr' Hbufs]
  · isplitl [Hg']; · iexists _; iexact Hg'
    isplitl [Hr']; · iexists _; iexact Hr'
    iexact Hbufs
  isplitl [HsemG HsemW Hsems]
  · isplitl [HsemG]; · iexact HsemG
    isplitl [HsemW]; · iexact HsemW
    iexact Hsems
  iexists _; isplitr
  swap; · iexact HO
  ipureintro; intro p _
  rcases p.2 with _ | q
  · exact .inr (.inl rfl)
  · exact .inr (.inr (congrArg some (Subsingleton.elim q 0)))

end Tile

end Cert.Proof.KernelIdealRun

end
-- ==== Proof.KernelIdealRun.lean ====
/- The whole program `KernelIdeal`, by the launch theorem for a SparseCore program: the task's proof
   (Proof/KernelIdealTile.lean) discharges the one call, and @main's reshape is run after it. `run_main` says that every
   execution ends with the arguments as they were, every semaphore at zero and the result at `answer` of the logits. -/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the call hands over -/

/-- The logits and the call's result go to the one task through its sequencer, and come back with the result computed. -/
def P : (K (F := F)).Pay (nD := nD) (Val := Elt F) (Name := ℕ) (U := UU) where
  st := fun _ d _ => iprop(xPts m d ∗ oPts d (m (oLoc d)))
  go := fun _ d _ _ => iprop(xPts m d ∗ oPts d (m (oLoc d)))
  td := fun _ d _ _ => iprop(xPts m d ∗ oPts d (result (m (xLoc d))))
  dn := fun _ d _ => iprop(xPts m d ∗ oPts d (result (m (xLoc d))))
  x := fun _ _ => iprop(emp)

/-- What the call hands over may be kept in an invariant. -/
instance P_storable : (P (F := F) m).IsStorable where
  st _ d c := by unfold P; infer_instance
  go _ _ _ _ := by unfold P; infer_instance
  td _ _ _ _ := by unfold P; infer_instance
  dn _ d c := by unfold P; infer_instance

/-! ## The call's obligations -/

/-- The grid point of task `s` of SparseCore `c`. -/
def coordsV (c : Fin (grid0.bound 0)) (s : Fin (grid0.bound 1)) : grid0.Coords
  | 0 => c
  | 1 => s
  | ⟨_ + 2, h⟩ => absurd h (Nat.not_lt.2 (Nat.le_add_left _ _))

/-- What a vector subcore runs for the call. -/
theorem defs₀_vector (c : Fin τ.nSC) (s : Fin τ.nSub) :
    defs₀ (F := F) (.scVector c s) 0 ()
      = SparseCore.onTile hcore0 hsub0 (fun c s => cc0__sc_body (coordsV c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          cc0_scratch2 cc0_scoped0) ⟨⟩ c s := rfl

/-- The task meets the call's obligation. -/
theorem tileObl [∀ e, Nonempty (Elt F e)] : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body m d (coordsV ⟨_, hci.1⟩ ⟨_, hci.2⟩) facts O W hO trivial

/-- The sequencer's share is its one task's. -/
theorem vecSplit : (K (F := F)).VecSplit' (P m) 0 := by
  intro d c
  show iprop(xPts m d ∗ oPts d (m (oLoc d))) ⊢ |={Set.univ}=> iprop(
      (bigSep Finset.univ fun _ : Fin 1 => iprop(xPts m d ∗ oPts d (m (oLoc d))))
      ∗ ((bigSep Finset.univ fun _ : Fin 1 => iprop(xPts m d ∗ oPts d (result (m (xLoc d)))))
          -∗ iprop(xPts m d ∗ oPts d (result (m (xLoc d))))))
  rw [bigSep_univ_of_subsingleton (0 : Fin 1), bigSep_univ_of_subsingleton (0 : Fin 1)]
  iintro H; imodintro
  isplitl [H]; · iexact H
  iintro H; iexact H

/-- The launch's ghost element: the handshakes' rounds, and no counters of the task's own. -/
def u₀ : UU := (initOf (K (F := F)).hsCells (K (F := F)).hsToks, 1)

omit [FloatOps F] in
/-- Nothing, as often as one likes, is nothing. -/
theorem emps {I : Type} (s : Finset I) : (bigSep s fun _ => iprop(emp)) = (iprop(emp) : sProp 𝕄) := bigSep_emp_const s

/-- The launch's ghost element gives the handshakes' rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## @main on the TensorCore -/

/-- The mask and the program's result, as locations of device `d`. -/
abbrev maskLoc (d : Dev nD) : Loc nD τ sig := (SparseCore.T d).loc main_arg1
abbrev yLoc (d : Dev nD) : Loc nD τ sig := (SparseCore.T d).loc main_v1

omit [FloatOps F] in
/-- The TensorCore's four arrays, one by one. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (maskLoc d ↦{fullShare} W main_arg1) ∗ (oLoc d ↦{fullShare} W main_v0) ∗ yLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the call takes for its one sequencer. -/
theorem st0_eq (d : Dev nD) :
    (bigSep Finset.univ fun c : Fin ((K (F := F)).nCore 0) => (P m).st 0 d c) = iprop(xPts m d ∗ oPts d (m (oLoc d))) :=
  bigSep_univ_of_subsingleton (0 : Fin 1)
/-- What the call gives back. -/
theorem dn0_eq (d : Dev nD) :
    (bigSep Finset.univ fun c : Fin ((K (F := F)).nCore 0) => (P m).dn 0 d c) = iprop(xPts m d ∗ oPts d (result (m (xLoc d)))) :=
  bigSep_univ_of_subsingleton (0 : Fin 1)

/-- The program's result: the call's, at shape (4, 2). -/
def answer (x : S4x2048x32000.Idx → F .f32) : S4x2.Idx → F .f32 := shapeCast S4x2 (result x) shapeCasts_S8_S4x2

/-- The reshape's two buffers, and the reshape. -/
abbrev o' : DevRef τ sig := Proc.devRef .tc (main_v0 : Ref sig .tc)
abbrev y' : DevRef τ sig := Proc.devRef .tc (main_v1 : Ref sig .tc)
abbrev opR : HloOp τ sig (Elt F) := StableHlo.reshape main_v0 main_v1 (rfl : (.f32 : EltTy) = .f32) shapeCasts_S8_S4x2

omit [FloatOps F] in
/-- The two buffers at a valuation. -/
theorem held_pair (d : Dev nD) (W : Valuation τ sig (Elt F)) :
    (held (SparseCore.T d) {o', y'} W : sProp 𝕄) = iprop((oLoc d ↦{fullShare} W o') ∗ yLoc d ↦{fullShare} W y') := by
  unfold held
  rw [SparseCore.bigSep_insert' (by decide), bigSep_singleton]

/-- The memory as the call leaves it. -/
def V1 (d : Dev nD) : Valuation τ sig (Elt F) := Function.update (fun b => m (d, b)) o' (result (m (xLoc d)))

/-- The call's buffer holds the call's result. -/
theorem V1_o (d : Dev nD) : V1 m d o' = result (m (xLoc d)) := Function.update_self _ _ _
/-- The program's result is not written yet. -/
theorem V1_y (d : Dev nD) : V1 m d y' = m (yLoc d) := Function.update_of_ne (show y' ≠ o' by decide) _ _

/-- The reshape writes the program's result. -/
theorem opR_y (d : Dev nD) : (opR (F := F)).result (V1 m d) y' = answer (m (xLoc d)) := by
  refine (StableHlo.reshape_result main_v0 main_v1 rfl shapeCasts_S8_S4x2 _ _ (V1 m d)).trans ?_
  show shapeCast S4x2 (V1 m d o') shapeCasts_S8_S4x2 = _
  rw [V1_o]; rfl

/-- What @main leaves: the arguments as they were, the result at `answer`. -/
abbrev FIN (d : Dev nD) : sProp 𝕄 :=
  iprop(xPts m d ∗ (maskLoc d ↦{fullShare} m (maskLoc d)) ∗ yLoc d ↦{fullShare} answer (m (xLoc d)))

/-- @main on device `d`'s TensorCore: the call, then the reshape of what came back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hm, Ho, Hy⟩, Hts, -⟩, -⟩
  iapply ((K (F := F)).wp_run (D (F := F)) 𝒱 (EH := EH) (P := P m) κ d 0) $$ [Hst Hx Hm Ho Hy Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opR) (S := {o', y'}) (show ({o', y'} : Finset (DevRef τ sig)) ⊆ {o', y'} from Finset.Subset.refl _)
    (V := V1 m d)) $$ [Hb Ho Hy]
  · isplitl [Hb]; · iexact Hb
    rw [held_pair, V1_o, V1_y]
    isplitl [Ho]; · iexact Ho
    iexact Hy
  iintro ⟨Hb, Hheld⟩
  ihave Hh := (Entails.of_eq (held_pair (F := F) d _)) $$ Hheld
  rw [opR_y]
  icases Hh with ⟨-, Hy⟩
  rw [wp_ret]; imodintro; imodintro
  isplitl [Hst]; · iexact Hst
  isplitr [Hb Hts]
  · isplitl [Hx]; · iexact Hx
    isplitl [Hm]; · iexact Hm
    iexact Hy
  isplitl [Hb] <;> iassumption

/-- What a final memory says of device `d`. -/
def fq (d : Dev nD) (s' : Phys nD τ sig (Elt F)) : Prop :=
  s'.mem.mem (xLoc d) = m (xLoc d) ∧ s'.mem.mem (maskLoc d) = m (maskLoc d) ∧ s'.mem.mem (yLoc d) = answer (m (xLoc d))

/-- The final memory is what @main owns of it. -/
theorem hfin (d : Dev nD) (s' : Phys nD τ sig (Elt F)) : iprop(FIN m d ∗ SI s') ⊢ (⌜fq m d s'⌝ : sProp 𝕄) := by
  iintro ⟨⟨Hx, Hm, Hy⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := maskLoc d) (I := Finset.univ) (q := fullShare) (f := m (maskLoc d)))) $$ [HSI Hm]
  · isplitl [HSI] <;> iassumption
  icases H with ⟨%hm, HSI, -⟩
  ihave H := (SI_pointsTo_agree (st := s') (ℓ := yLoc d) (I := Finset.univ) (q := fullShare) (f := answer (m (xLoc d)))) $$ [HSI Hy]
  · isplitl [HSI] <;> iassumption
  icases H with %hy
  ipureintro
  exact ⟨funext fun i => hx i (Finset.mem_univ i), funext fun i => hm i (Finset.mem_univ i), funext fun i => hy i (Finset.mem_univ i)⟩

/-! ## The program's run -/

/-- What every execution ends with. -/
def QC : PUnit × MemSt nD τ sig (Elt F) → Prop := fun r =>
  (∀ c : Dev nD, r.2.mem (xLoc c) = m (xLoc c) ∧ r.2.mem (maskLoc c) = m (maskLoc c) ∧ r.2.mem (yLoc c) = answer (m (xLoc c))) ∧ r.2.sem = fun _ => 0

/-- Every execution terminates, with the arguments unchanged, the result at `answer`, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.Value.lean ====
/- The values: under the precondition, at the extended reals, the reference's result is the program's.

   The reference adds up each row of the mask, takes the position `sum - 1` of row 0 (a negative one counted from the
   end), gathers that position's logits for every batch row, and returns the softmax of the logits of vocabulary entries
   10784 ("yes") and 3771 ("no"). The program returns the logistic function of plus and minus the difference of the same
   two logits at position 2047. The precondition (`in_range`) makes the position 2047 and the eight logits finite, and
   for finite logits a softmax of two is a logistic function (`share_eq`). The theorem for the claim is
   `reference_answer`. -/
module

public import proofs.«01_k».proof.Defs
public import proofs.«01_k».proof.Proof.Gen.ReferenceIdeal.Run
public import proofs.«01_k».proof.Proof.KernelIdealRun
public import Idealize.ShloMosaic.Lib.ReduceAll
public import Idealize.ShloMosaic.Lib.Pipeline.Value
public import Idealize.ShloMosaic.Lib.StableHlo.Predicate
public import Idealize.ShloMosaic.Lib.Pointwise.Tactic
public import Idealize.ShloMosaic.Lib.Pointwise.Reshape
public import Idealize.ShloMosaic.Lib.Pointwise.Reduce

@[expose] public section

noncomputable section

namespace Cert.Proof.Value

open Cert.ReferenceIdeal Cert.ReferenceIdeal.Gen Idealize.ShloMosaic Idealize.ShloMosaic.TcCoe
open Cert.Proof.KernelIdealRun (place)

/-! ## The reference, in steps -/

/-- The sum of each row of the mask. -/
abbrev sums (w : IVec S4x2048 32) : IVec S4 32 :=
  Host.reduce IntOp.addi w (constantI S_ 32 0#32) reducesTo_S4x2048_S4_d1 h_S_

/-- The position gathered for each batch row, `sum - 1` of a mask row, 2048 more if that is negative: the reference's
    index column, one entry a row of the mask. -/
def position (w : IVec S4x2048 32) : IVec S4x1 32 :=
  broadcastInDim S4x1 ![0] bcast_S4_S4x1_0
    (select (cmpi .slt (subi (sums w) (broadcastInDim S4 ![] bcast_S_S4 (constantI S_ 32 1#32))) (broadcastInDim S4 ![] bcast_S_S4 (constantI S_ 32 0#32)))
      (addi (subi (sums w) (broadcastInDim S4 ![] bcast_S_S4 (constantI S_ 32 1#32))) (broadcastInDim S4 ![] bcast_S_S4 (constantI S_ 32 2048#32)))
      (subi (sums w) (broadcastInDim S4 ![] bcast_S_S4 (constantI S_ 32 1#32))))

/-- Which positions lie between 0 and 2047. -/
def inside (p : IVec S4x1 32) : IVec S4 1 :=
  Host.reduce IntOp.andi
    (andi (cmpi .sge p (broadcastInDim S4x1 ![] bcast_S_S4x1 (constantI S_ 32 0#32)))
      (cmpi .sle p (broadcastInDim S4x1 ![0, 1] bcast_S1x1_S4x1_0_1 (broadcastInDim S1x1 ![1] bcast_S1_S1x1_1 (constantI S1 32 2047#32)))))
    (constantI S_ 1 1#1) reducesTo_S4x1_S4_d1 h_S_

/-- The logits at the positions `p`, or a not-a-number where the position lies outside. -/
def taken (x : FVec Ideal S4x2048x32000 .f32) (p : IVec S4x1 32) : FVec Ideal S4x4x32000 .f32 :=
  select (broadcastInDim S4x4x32000 ![1] bcast_S4_S4x4x32000_1 (inside p))
    (Host.gather gather_S4x2048x32000_S4x1_S4x4x32000_02_1_n_n_1_1_4132000 x p)
    (broadcastInDim S4x4x32000 ![] bcast_S_S4x4x32000 (constant S_ .f32 0x7FC00000#32))

/-- The logits at the first position, the one that row 0 of the mask gives. -/
def rows (t : FVec Ideal S4x4x32000 .f32) : FVec Ideal S4x32000 .f32 :=
  shapeCast S4x32000 (extractStridedSlice S4x1x32000 ![0, 0, 0] t slices_S4x4x32000_S4x1x32000_0_0_0) shapeCasts_S4x1x32000_S4x32000

/-- Each batch row's two logits: entry 10784, then entry 3771. -/
def pair (r : FVec Ideal S4x32000 .f32) : FVec Ideal S4x2 .f32 :=
  concatenate S4x2 1
    [⟨S4x1, broadcastInDim S4x1 ![0] bcast_S4_S4x1_0 (shapeCast S4 (extractStridedSlice S4x1 ![0, 10784] r slices_S4x32000_S4x1_0_10784) shapeCasts_S4x1_S4)⟩,
      ⟨S4x1, broadcastInDim S4x1 ![0] bcast_S4_S4x1_0 (shapeCast S4 (extractStridedSlice S4x1 ![0, 3771] r slices_S4x32000_S4x1_0_3771) shapeCasts_S4x1_S4)⟩]
    concatenates_S4x1_S4x1_S4x2_d1

/-- The exponentials of two logits less their maximum. -/
def exps (l : FVec Ideal S4x2 .f32) : FVec Ideal S4x2 .f32 :=
  Host.exp (subf l (broadcastInDim S4x2 ![0, 1] bcast_S4x1_S4x2_0_1 (broadcastInDim S4x1 ![0] bcast_S4_S4x1_0
    (maximumf (broadcastInDim S4 ![] bcast_S_S4 (constant S_ .f32 0xFF800000#32))
      (Host.reduce FloatOps.maximumf l (constant S_ .f32 0xFF800000#32) reducesTo_S4x2_S4_d1 h_S_)))))

/-- Each element divided by its row's sum. -/
def shares (e : FVec Ideal S4x2 .f32) : FVec Ideal S4x2 .f32 :=
  Host.divf e (broadcastInDim S4x2 ![0, 1] bcast_S4x1_S4x2_0_1 (broadcastInDim S4x1 ![0] bcast_S4_S4x1_0
    (Host.reduceAdd e (constant S_ .f32 0x00000000#32) reducesTo_S4x2_S4_d1 h_S_)))

/-- The reference's result is those steps of its arguments. -/
theorem res_eq (m : (ℓ : Loc nD τ sig) → Buf (Elt Ideal) ℓ) (c : Dev nD) :
    Cert.ReferenceIdeal.Value.res_out0 m c
      = shares (exps (pair (rows (taken (m ((c.tc : Thread nD τ).loc main_arg0)) (position (m ((c.tc : Thread nD τ).loc main_arg1))))))) := rfl

/-! ## The position -/

/-- The position of row 0 is 2047 when the row's mask sum is 2048, and also when it is 0 (−1 counts from the end). -/
theorem position_zero (w : IVec S4x2048 32) (h : sums w (ix1 0) = 2048#32 ∨ sums w (ix1 0) = 0#32) :
    position w (ix2 0 0) = 2047#32 := by
  have e : position w (ix2 0 0) = Scalar.select (IntOp.cmpi .slt (IntOp.subi (sums w (ix1 0)) 1#32) 0#32)
      (IntOp.addi (IntOp.subi (sums w (ix1 0)) 1#32) 2048#32) (IntOp.subi (sums w (ix1 0)) 1#32) := by
    unfold position
    pointwise
  rw [e]
  rcases h with h | h <;> rw [h] <;> decide

/-- Position 2047 is inside. -/
theorem inside_zero (p : IVec S4x1 32) (h : p (ix2 0 0) = 2047#32) : inside p (ix1 0) = 1#1 := by
  unfold inside
  rw [Host.reduce_eq_foldl]
  refine IntOp.foldl_andi_one _ _ _ rfl fun i hi => ?_
  obtain rfl : i = ix2 0 0 := by
    obtain ⟨k, rfl⟩ := (Shape.ReducesTo.fiber_r2_a1 reducesTo_S4x1_S4_d1 (ix1 0) i).1 (by simpa using (List.mem_filter.1 hi).2)
    obtain rfl : k = 0 := Subsingleton.elim _ _
    rfl
  show IntOp.andi (IntOp.cmpi .sge (p (ix2 0 0)) 0#32) (IntOp.cmpi .sle (p (ix2 0 0)) 2047#32) = 1#1
  rw [h]
  decide

/-- The gather at position 2047 reads the logits there. -/
theorem gather_zero (x : FVec Ideal S4x2048x32000 .f32) (p : IVec S4x1 32) (h : p (ix2 0 0) = 2047#32) (b : Fin 4) (v : Fin 32000) :
    Host.gather gather_S4x2048x32000_S4x1_S4x4x32000_02_1_n_n_1_1_4132000 x p (ix3 b 0 v) = x (place b v) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  match a with
  | 0 =>
    unfold GatherDims.start GatherDims.offCoord
    rw [dif_neg (by decide), dif_pos (by decide), Nat.zero_add]
    exact congrArg (fun k => (ix3 b (0 : Fin 4) v k).val) (show _ = (0 : Fin 3) by decide)
  | 1 =>
    rw [GatherDims.offCoord_eq_zero _ _ _ (fun h => ((GatherDims.mem_sKept _ _).mp h).1 (List.mem_singleton.mpr rfl))]
    unfold GatherDims.start
    rw [dif_pos (show (1 : Fin 3) ∈ gather_S4x2048x32000_S4x1_S4x4x32000_02_1_n_n_1_1_4132000.startIndexMap from List.mem_singleton.mpr rfl)]
    have hsi : ∀ k, gather_S4x2048x32000_S4x1_S4x4x32000_02_1_n_n_1_1_4132000.siIdx (ix3 b 0 v) k = ix2 0 0 := by
      intro k
      obtain rfl : k = ⟨0, Nat.one_pos⟩ := Fin.ext (Nat.lt_one_iff.1 k.isLt)
      funext c
      match c with
      | 0 => rfl
      | 1 => rfl
    rw [hsi, h]
    rfl
  | 2 =>
    unfold GatherDims.start GatherDims.offCoord
    rw [dif_neg (by decide), dif_pos (by decide), Nat.zero_add]
    exact congrArg (fun k => (ix3 b (0 : Fin 4) v k).val) (show _ = (2 : Fin 3) by decide)

/-- So the logits taken are those at position 2047. -/
theorem taken_zero (x : FVec Ideal S4x2048x32000 .f32) (p : IVec S4x1 32) (h : p (ix2 0 0) = 2047#32) (b : Fin 4) (v : Fin 32000) :
    taken x p (ix3 b 0 v) = x (place b v) := by
  unfold taken
  rw [ValueIdx.select_apply, gather_zero x p h]
  have e : broadcastInDim S4x4x32000 ![1] bcast_S4_S4x4x32000_1 (inside p) (ix3 b 0 v) = inside p (ix1 0) := by pointwise
  rw [e, inside_zero p h]
  rfl

/-! ## The steps, read at an index -/

/-- `rows` reads the first position. -/
theorem rows_apply (t : FVec Ideal S4x4x32000 .f32) (b : Fin 4) (v : Fin 32000) : rows t (ix2 b v) = t (ix3 b 0 v) := by
  unfold rows
  pointwise

/-- `pair` holds "yes" in column 0 and "no" in column 1. -/
theorem pair_apply (r : FVec Ideal S4x32000 .f32) (b : Fin 4) (c : Fin 2) :
    pair r (ix2 b c) = if c = 0 then r (ix2 b 10784) else r (ix2 b 3771) := by
  unfold pair
  match c with
  | 0 =>
    rw [concatenate_pair_apply_left (t := S4x2) (s₁ := S4x1) (s₂ := S4x1) 1 _ _ _ (ix2 b 0) rfl (ix2 b 0) (fun d => by match d with | 0 => rfl | 1 => rfl)]
    pointwise
  | 1 =>
    rw [concatenate_pair_apply_right (t := S4x2) (s₁ := S4x1) (s₂ := S4x1) 1 _ _ _ (ix2 b 1) rfl rfl (ix2 b 0) (fun d hd => by match d with | 0 => rfl | 1 => exact absurd rfl hd) rfl]
    pointwise

/-- `exps` at an index: the maximum over the row is the larger of its two elements, its initial value being −∞. -/
theorem exps_apply (l : FVec Ideal S4x2 .f32) (b : Fin 4) (c : Fin 2) :
    exps l (ix2 b c) = Ideal.exp (l (ix2 b c) - max (l (ix2 b 0)) (l (ix2 b 1))) := by
  have hbot : Ideal.ofBits .f32 0xFF800000#32 = ⊥ := by simp [Ideal.ofBits, Ideal.ieee]
  unfold exps
  pointwise
  rw [hbot, show (Finset.univ : Finset (Fin 2)) = {0, 1} from rfl, Finset.fold_insert (by decide), Finset.fold_singleton]
  simp

/-- `shares` at an index: the row's sum is that of its two elements. -/
theorem shares_apply (e : FVec Ideal S4x2 .f32) (b : Fin 4) (c : Fin 2) :
    shares e (ix2 b c) = Ideal.div (e (ix2 b c)) (e (ix2 b 0) + e (ix2 b 1)) := by
  unfold shares
  pointwise
  rw [Fin.sum_univ_two]

/-! ## Softmax of two and logistic -/

/-- For real numbers: one of two exponentials' share, whatever is taken off both exponents, is a logistic function of the
    difference. -/
theorem share_eq (a b M : ℝ) :
    Ideal.div (Ideal.exp ((a : EReal) - M)) (Ideal.exp ((a : EReal) - M) + Ideal.exp ((b : EReal) - M))
      = Ideal.div 1 (1 + Ideal.exp ((b : EReal) - a)) := by
  have h1 : Real.exp (a - M) + Real.exp (b - M) ≠ 0 := by positivity
  have h2 : 1 + Real.exp (b - a) ≠ 0 := by positivity
  have h3 : Real.exp (b - M) = Real.exp (b - a) * Real.exp (a - M) := by rw [← Real.exp_add]; ring_nf
  simp only [← EReal.coe_sub, Ideal.exp_coe, ← EReal.coe_add, ← EReal.coe_one]
  rw [Ideal.div_coe h1, Ideal.div_coe h2, ← EReal.coe_mul, ← EReal.coe_mul, EReal.coe_eq_coe_iff, h3]
  have := Real.exp_pos (a - M)
  field_simp

/-- The program's element for a real sign and a real margin. -/
theorem sigmoid_eq (s z : ℝ) :
    KernelIdealRun.sigmoid (F := Ideal) (s : EReal) (z : EReal) = Ideal.div 1 (1 + Ideal.exp ((-s * z : ℝ) : EReal)) := by
  unfold KernelIdealRun.sigmoid
  simp only [pointwise]
  rw [zero_sub, ← EReal.coe_neg, ← EReal.coe_mul]

/-! ## The precondition -/

/-- The side conditions of the precondition's operations. -/
instance preFacts : Cert.Pre_in_range.Facts :=
  ⟨by decide, by decide, by decide, by decide, by decide, by decide, by decide, by decide, by decide⟩

/-- An extended real whose absolute value is below +∞ is a real number. -/
theorem finite_of_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : BitVec.ofBool (decide (max (x : EReal) (-x) < Ideal.ofBits .f32 0x7F800000#32)) = 1#1 := h
  rw [htop, StableHlo.Predicate.ofBool_eq_one_iff, decide_eq_true_iff, max_lt_iff] at h'
  induction x using EReal.rec with
  | bot => simp at h'
  | coe r => exact ⟨r, rfl⟩
  | top => simp at h'

/-- `place` by its three coordinates. -/
theorem place_eq (b : Fin 4) (v : Fin 32000) : place b v = ix3 b 2047 v := by
  funext a
  match a with
  | 0 => rfl
  | 1 => rfl
  | 2 => rfl

/-- The precondition says that row 0 of the mask sums to 2048 or to 0, and that the eight logits that the program uses are
    real numbers. -/
theorem pre_read (x : FVec Ideal S4x2048x32000 .f32) (w : IVec S4x2048 32) (h : Cert.Pre_in_range.fn (F := Ideal) x w = fun _ => 1#1) :
    (sums w (ix1 0) = 2048#32 ∨ sums w (ix1 0) = 0#32)
      ∧ ∀ b : Fin 4, (∃ r : ℝ, x (place b 10784) = (r : EReal)) ∧ ∃ r : ℝ, x (place b 3771) = (r : EReal) := by
  have h0 := congrFun h ix0
  unfold Cert.Pre_in_range.fn Cert.Pre_in_range.fn_part1 at h0
  obtain ⟨h1, h2⟩ := IntOp.andi_eq_one.1 h0
  obtain ⟨h3, h4⟩ := IntOp.andi_eq_one.1 h1
  have hs (y : IVec S4 32) : shapeCast Cert.Pre_in_range.S_ (extractStridedSlice Cert.Pre_in_range.S1 ![0] y Cert.Pre_in_range.Facts.slices_S4_S1_0)
      Cert.Pre_in_range.Facts.shapeCasts_S1_S_ ix0 = y (ix1 0) := by pointwise
  refine ⟨?_, fun b => ⟨?_, ?_⟩⟩
  · rcases IntOp.ori_eq_one.1 h3 with h5 | h5
    · exact .inl ((hs _).symm.trans (IntOp.cmpi_eq.1 h5))
    · exact .inr ((hs _).symm.trans (IntOp.cmpi_eq.1 h5))
  · have h5 := Host.reduce_andi_all _ _ _ _ _ h4 (ix1 b)
    have h6 := finite_of_lt _ h5
    rw [place_eq]
    pointwise at h6
    exact h6
  · have h5 := Host.reduce_andi_all _ _ _ _ _ h2 (ix1 b)
    have h6 := finite_of_lt _ h5
    rw [place_eq]
    pointwise at h6
    exact h6

/-! ## The two results -/

/-- The program's result at an index, for real logits `y` ("yes") and `n` ("no"). -/
theorem answer_eq (x : FVec Ideal S4x2048x32000 .f32) (b : Fin 4) (c : Fin 2) (y n : ℝ)
    (hy : x (place b 10784) = (y : EReal)) (hn : x (place b 3771) = (n : EReal)) :
    KernelIdealRun.answer (F := Ideal) x (ix2 b c) = Ideal.div 1 (1 + Ideal.exp (((if c = 0 then n - y else y - n : ℝ)) : EReal)) := by
  have hminus : Ideal.ofBits .f32 0xBF800000#32 = ((-1 : ℝ) : EReal) := by
    simp [Ideal.ofBits, Ideal.ieee, -EReal.coe_mul]
    norm_num
  have hz : KernelIdealRun.margin (F := Ideal) x b = ((y - n : ℝ) : EReal) := by
    show x (place b 10784) - x (place b 3771) = _
    rw [hy, hn, ← EReal.coe_sub]
  have hr : KernelIdealRun.answer (F := Ideal) x (ix2 b c)
      = KernelIdealRun.result (F := Ideal) x (ix1 ⟨b.val * 2 + c.val, by omega⟩) := by
    unfold KernelIdealRun.answer
    pointwise
  have hs : (if (b.val * 2 + c.val) % 2 = 0 then Scalar.ofBits (F := Ideal) .f32 0x3F800000#32 else Scalar.ofBits .f32 0xBF800000#32)
      = (((if c = 0 then 1 else -1 : ℝ)) : EReal) := by
    match c with
    | 0 => rw [if_pos (by simp), if_pos rfl, EReal.coe_one]; exact Ideal.ofBits_one_f32
    | 1 => rw [if_neg (by simp), if_neg (by decide)]; exact hminus
  rw [hr]
  unfold KernelIdealRun.result
  have hb : (⟨(b.val * 2 + c.val) / 2, by omega⟩ : Fin 4) = b := Fin.ext (by show (b.val * 2 + c.val) / 2 = b.val; omega)
  refine Eq.trans (congrArg₂ (KernelIdealRun.sigmoid (F := Ideal)) hs ((congrArg _ hb).trans hz)) ?_
  rw [sigmoid_eq]
  congr 4
  split <;> ring

/-- Under the precondition the reference's steps give the program's result. -/
theorem value_eq (x : FVec Ideal S4x2048x32000 .f32) (w : IVec S4x2048 32) (h : Cert.Pre_in_range.fn (F := Ideal) x w = fun _ => 1#1) :
    shares (exps (pair (rows (taken x (position w))))) = KernelIdealRun.answer (F := Ideal) x := by
  obtain ⟨hw, hx⟩ := pre_read x w h
  funext j
  obtain ⟨b, c, rfl⟩ : ∃ (b : Fin 4) (c : Fin 2), j = ix2 b c := ⟨j 0, j 1, eq_ix2 j⟩
  obtain ⟨⟨y, hy⟩, n, hn⟩ := hx b
  have hp := position_zero w hw
  rw [answer_eq x b c y n hy hn, shares_apply, exps_apply, exps_apply, exps_apply]
  simp only [pair_apply, rows_apply, taken_zero _ _ hp, hy, hn]
  have hmax : max (y : EReal) (n : EReal) = ((max y n : ℝ) : EReal) := (EReal.coe_strictMono.monotone.map_max).symm
  match c with
  | 0 => simpa [hmax] using share_eq y n (max y n)
  | 1 => simpa [hmax, add_comm] using share_eq n y (max y n)

/-- Under the precondition on the program's arguments, the reference's result of the same arguments is the program's. -/
theorem reference_answer (m : (ℓ : Loc nD τ sig) → Buf (Elt Ideal) ℓ) (c : Dev nD) (x : FVec Ideal S4x2048x32000 .f32) (w : IVec S4x2048 32)
    (hx : m ((c.tc : Thread nD τ).loc main_arg0) = x) (hw : m ((c.tc : Thread nD τ).loc main_arg1) = w)
    (h : Cert.Pre_in_range.fn (F := Ideal) x w = fun _ => 1#1) :
    Cert.ReferenceIdeal.Value.res_out0 m c = KernelIdealRun.answer (F := Ideal) x := by
  subst hx hw
  exact (res_eq m c).trans (value_eq _ _ h)

end Cert.Proof.Value

end
-- ==== Proof.lean ====
/- The proof of the claim `Cert.Claim`. The program's run is `run_main` of Proof/KernelRun.lean (bit patterns) and of
   Proof/KernelIdealRun.lean (extended reals), the reference's is the generated Proof/Gen/ReferenceIdeal/Run.lean; each
   frame is such a run with the values dropped. That the two results are one is `Value.reference_answer` of
   Proof/Value.lean. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem

/-- The program on bit patterns: every execution ends, with the arguments unchanged and every semaphore at zero. -/
theorem frame_p : Cert.quiescent_Kernel := fun m ρ _ =>
  (θ_run Cert.Kernel.defs _ _).mono (fun _ h => ⟨fun c => ⟨(h.1 c).1, (h.1 c).2.1⟩, h.2⟩) (KernelRun.run_main (F := Bits) m ρ)

/-- The same of the program on extended reals, from any start. -/
theorem frame_pi : Cert.quiescent_KernelIdeal := fun m ρ _ =>
  (θ_run Cert.KernelIdeal.defs _ _).mono (fun _ h => ⟨fun c => ⟨(h.1 c).1, (h.1 c).2.1⟩, h.2⟩) (KernelIdealRun.run_main (F := Ideal) m ρ)

/-- And from a start that meets the precondition. -/
theorem frame_pi_pre : Cert.quiescent_KernelIdeal_pre_in_range := fun m ρ _ => frame_pi m ρ trivial

/-- The reference on extended reals: every execution ends, with the arguments unchanged; it has no semaphore to leave. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And from a start that meets the precondition. -/
theorem frame_ri_pre : Cert.quiescent_ReferenceIdeal_pre_in_range := fun m ρ _ => frame_ri m ρ trivial

/-- Under the precondition the program and the reference end with the same result, the program's `answer` of the logits. -/
theorem algebraic : Cert.algebraic_KernelIdeal_ReferenceIdeal_pre_in_range := fun m ρ m' ρ' hpre hargs =>
  ⟨fun c => KernelIdealRun.answer (F := Ideal) (m (KernelIdealRun.xLoc c)),
    (θ_run Cert.KernelIdeal.defs _ _).mono (fun _ h c => ⟨(h.1 c).2.2, (h.1 c).1, (h.1 c).2.1⟩) (KernelIdealRun.run_main (F := Ideal) m ρ),
    (θ_run Cert.ReferenceIdeal.defs _ _).mono
      (fun _ h c => ⟨(h c).1.trans (Value.reference_answer m' c _ _ (hargs c).1 (hargs c).2 (hpre c)), (h c).2⟩)
      (Cert.ReferenceIdeal.Value.run (F := Ideal) m' ρ')⟩

/-- The claim: the programs' side conditions, the frames, the idealized program's being the program (no rule was used),
    and the equality of the results. -/
theorem claim : Cert.Claim :=
  ⟨Cert.Kernel.Gen.facts, Cert.KernelIdeal.Gen.facts, Cert.ReferenceIdeal.Gen.facts, Value.preFacts,
    frame_p, frame_pi, frame_pi_pre, frame_ri, frame_ri_pre, trivial, algebraic⟩

end Cert.Proof

end
